-- ==== Defs.lean ====
def Pre_Kernel [hPre_evidence_range : Cert.Pre_evidence_range.Facts] (m : (ℓ : Loc Cert.Kernel.nD Cert.Kernel.τ Cert.Kernel.sig) → Buf (Elt Bits) ℓ) : Prop :=
  ∀ c : Dev Cert.Kernel.nD,
    (Cert.Pre_evidence_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_evidence_range : Cert.Pre_evidence_range.Facts] (m : (ℓ : Loc Cert.KernelIdeal.nD Cert.KernelIdeal.τ Cert.KernelIdeal.sig) → Buf (Elt Ideal) ℓ) : Prop :=
  ∀ c : Dev Cert.KernelIdeal.nD,
    (Cert.Pre_evidence_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_evidence_range [hPre_evidence_range : Cert.Pre_evidence_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_evidence_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_evidence_range : Cert.Pre_evidence_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_evidence_range : Cert.Pre_evidence_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_evidence_range [hReferenceIdeal : Cert.ReferenceIdeal.Facts] [hPre_evidence_range : Cert.Pre_evidence_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_evidence_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_evidence_range : Cert.Pre_evidence_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_evidence_range : Cert.Pre_evidence_range.Facts),
    quiescent_Kernel (hKernel := hKernel) (hPre_evidence_range := hPre_evidence_range)
    ∧ quiescent_KernelIdeal (hKernelIdeal := hKernelIdeal) (hPre_evidence_range := hPre_evidence_range)
    ∧ quiescent_ReferenceIdeal (hReferenceIdeal := hReferenceIdeal)
    ∧ quiescent_ReferenceIdeal_pre_evidence_range (hReferenceIdeal := hReferenceIdeal) (hPre_evidence_range := hPre_evidence_range)
    ∧ preserves_Kernel_KernelIdeal
    ∧ algebraic_KernelIdeal_ReferenceIdeal (hKernelIdeal := hKernelIdeal) (hReferenceIdeal := hReferenceIdeal) (hPre_evidence_range := hPre_evidence_range)
-- ==== Pre_evidence_range.lean ====
abbrev S1x2048 : Shape := ⟨2, ![1, 2048]⟩
abbrev S16x64 : Shape := ⟨2, ![16, 64]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel

variable [Facts]

def fn {F : FTy → Type} [FloatOps F] (main_arg0 : IVec S1x2048 32) (main_arg1 : FVec F S16x64 .f32) : IVec S_ 1 :=
  let main_c : IVec S_ 32 := constantI S_ 32 0#32
  let main_v0 : IVec S1x2048 32 := broadcastInDim S1x2048 ![] bcast_S_S1x2048 main_c
  let main_v1 : IVec S1x2048 1 := cmpi .sge main_arg0 main_v0
  let main_c_0 : IVec S_ 32 := constantI S_ 32 4#32
  let main_v2 : IVec S1x2048 32 := broadcastInDim S1x2048 ![] bcast_S_S1x2048 main_c_0
  let main_v3 : IVec S1x2048 1 := cmpi .slt main_arg0 main_v2
  let main_v4 : IVec S1x2048 1 := andi main_v1 main_v3
  let main_c_1 : IVec S_ 1 := constantI S_ 1 1#1
  let main_v5 : IVec S_ 1 := (fun x v => Host.reduce IntOp.andi x v reducesTo_S1x2048_S_d0_1 h_S_) main_v4 main_c_1
  main_v5
-- ==== Kernel.lean ====
abbrev S1x2048 : Shape := ⟨2, ![1, 2048]⟩
abbrev S16x64 : Shape := ⟨2, ![16, 64]⟩
abbrev S2048 : Shape := ⟨1, ![2048]⟩
abbrev S1x2048x64x2048 : Shape := ⟨4, ![1, 2048, 64, 2048]⟩
abbrev S1x16x64x2048 : Shape := ⟨4, ![1, 16, 64, 2048]⟩
abbrev S4x64x2048 : Shape := ⟨3, ![4, 64, 2048]⟩
abbrev S16x2048 : Shape := ⟨2, ![16, 2048]⟩
abbrev S64x2048 : Shape := ⟨2, ![64, 2048]⟩
abbrev S1x64x2048 : Shape := ⟨3, ![1, 64, 2048]⟩
abbrev S1 : Shape := ⟨1, ![1]⟩
abbrev S1x1x64x2048 : Shape := ⟨4, ![1, 1, 64, 2048]⟩
abbrev S1x2048x2048x64 : Shape := ⟨4, ![1, 2048, 2048, 64]⟩

abbrev nBuf : Space → Nat
  | .hbm => 5
  | .vmem => 5
  | .smem => 1
  | _ => 0

abbrev bufTy : (tb : Table) → Fin (tcTables nBuf tb) → BufTy
  | .hbm, ⟨0, _⟩ => ⟨S1x2048, .i32⟩
  | .hbm, ⟨1, _⟩ => ⟨S16x64, .f32⟩
  | .hbm, ⟨2, _⟩ => ⟨S1x2048, .i32⟩
  | .hbm, ⟨3, _⟩ => ⟨S1x2048x64x2048, .f32⟩
  | .hbm, ⟨4, _⟩ => ⟨S1x2048x2048x64, .f32⟩
  | .local _ .vmem, ⟨0, _⟩ => ⟨S1x2048, .i32⟩
  | .local _ .vmem, ⟨1, _⟩ => ⟨S16x64, .f32⟩
  | .local _ .vmem, ⟨2, _⟩ => ⟨S1x16x64x2048, .f32⟩
  | .local _ .vmem, ⟨3, _⟩ => ⟨S1x16x64x2048, .f32⟩
  | .local _ .vmem, ⟨4, _⟩ => ⟨S4x64x2048, .f32⟩
  | .local _ .smem, ⟨0, _⟩ => ⟨S2048, .i32⟩
  | _, _ => ⟨S1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v3 : BitVec 32 := Scalar.muli arg0 c16_i32
  let c0_i32_1 : BitVec 32 := 0#32
  let v4 : BitVec 32 := Scalar.addi v3 c0_i32_1
  let v5 : Index := Scalar.indexCast v4
  ![v5.toNat]
def k0_off2 (v6 : BitVec 32) : Fin 3 → Nat :=
  let v7 : Index := Scalar.indexCast v6
  let c0 : Index := 0#32
  let c0_2 : Index := 0#32
  ![v7.toNat, 0, 0]

def k0_chk1 (v6 : BitVec 32) : Prop :=
  (∀ a, (k0_off2 v6) a + S1x64x2048.size a ≤ S4x64x2048.size a)
theorem k0_off2_inb : ∀ (v6 : BitVec 32) (k0_hw1 : k0_chk1 v6), ∀ a, (k0_off2 v6) a + S1x64x2048.size a ≤ S4x64x2048.size a := fun v6 k0_hw1 => k0_hw1

def k0_off3 (i : grid0.Coords) : Fin 1 → Nat :=
  let arg0 : BitVec 32 := BitVec.ofNat 32 (i 0).val
  let c16_i32_7 : BitVec 32 := 16#32
  let v13 : BitVec 32 := Scalar.muli arg0 c16_i32_7
  let c1_i32 : BitVec 32 := 1#32
  let v14 : BitVec 32 := Scalar.addi v13 c1_i32
  let v15 : Index := Scalar.indexCast v14
  ![v15.toNat]
def k0_off4 (v16 : BitVec 32) : Fin 3 → Nat :=
  let v17 : Index := Scalar.indexCast v16
  let c0_8 : Index := 0#32
  let c0_9 : Index := 0#32
  ![v17.toNat, 0, 0]

def k0_chk2 (v16 : BitVec 32) : Prop :=
  (∀ a, (k0_off4 v16) a + S1x64x2048.size a ≤ S4x64x2048.size a)
theorem k0_off4_inb : ∀ (v16 : BitVec 32) (k0_hw2 : k0_chk2 v16), ∀ a, (k0_off4 v16) a + S1x64x2048.size a ≤ S4x64x2048.size a := fun v16 k0_hw2 => k0_hw2

def k0_off5 (i : grid0.Coords) : Fin 1 → Nat :=
  let arg0 : BitVec 32 := BitVec.ofNat 32 (i 0).val
  let c16_i32_13 : BitVec 32 := 16#32
  let v23 : BitVec 32 := Scalar.muli arg0 c16_i32_13
  let c2_i32 : BitVec 32 := 2#32
  let v24 : BitVec 32 := Scalar.addi v23 c2_i32
  let v25 : Index := Scalar.indexCast v24
  ![v25.toNat]
def k0_off6 (v26 : BitVec 32) : Fin 3 → Nat :=
  let v27 : Index := Scalar.indexCast v26
  let c0_14 : Index := 0#32
  let c0_15 : Index := 0#32
  ![v27.toNat, 0, 0]

def k0_chk3 (v26 : BitVec 32) : Prop :=
  (∀ a, (k0_off6 v26) a + S1x64x2048.size a ≤ S4x64x2048.size a)
theorem k0_off6_inb : ∀ (v26 : BitVec 32) (k0_hw3 : k0_chk3 v26), ∀ a, (k0_off6 v26) a + S1x64x2048.size a ≤ S4x64x2048.size a := fun v26 k0_hw3 => k0_hw3

def k0_off7 (i : grid0.Coords) : Fin 1 → Nat :=
  let arg0 : BitVec 32 := BitVec.ofNat 32 (i 0).val
  let c16_i32_19 : BitVec 32 := 16#32
  let v33 : BitVec 32 := Scalar.muli arg0 c16_i32_19
  let c3_i32 : BitVec 32 := 3#32
  let v34 : BitVec 32 := Scalar.addi v33 c3_i32
  let v35 : Index := Scalar.indexCast v34
  ![v35.toNat]
def k0_off8 (v36 : BitVec 32) : Fin 3 → Nat :=
  let v37 : Index := Scalar.indexCast v36
  let c0_20 : Index := 0#32
  let c0_21 : Index := 0#32
  ![v37.toNat, 0, 0]

def k0_chk4 (v36 : BitVec 32) : Prop :=
  (∀ a, (k0_off8 v36) a + S1x64x2048.size a ≤ S4x64x2048.size a)
theorem k0_off8_inb : ∀ (v36 : BitVec 32) (k0_hw4 : k0_chk4 v36), ∀ a, (k0_off8 v36) a + S1x64x2048.size a ≤ S4x64x2048.size a := fun v36 k0_hw4 => k0_hw4

def k0_off9 (i : grid0.Coords) : Fin 1 → Nat :=
  let arg0 : BitVec 32 := BitVec.ofNat 32 (i 0).val
  let c16_i32_25 : BitVec 32 := 16#32
  let v43 : BitVec 32 := Scalar.muli arg0 c16_i32_25
  let c4_i32 : BitVec 32 := 4#32
  let v44 : BitVec 32 := Scalar.addi v43 c4_i32
  let v45 : Index := Scalar.indexCast v44
  ![v45.toNat]
def k0_off10 (v46 : BitVec 32) : Fin 3 → Nat :=
  let v47 : Index := Scalar.indexCast v46
  let c0_26 : Index := 0#32
  let c0_27 : Index := 0#32
  ![v47.toNat, 0, 0]

def k0_chk5 (v46 : BitVec 32) : Prop :=
  (∀ a, (k0_off10 v46) a + S1x64x2048.size a ≤ S4x64x2048.size a)
theorem k0_off10_inb : ∀ (v46 : BitVec 32) (k0_hw5 : k0_chk5 v46), ∀ a, (k0_off10 v46) a + S1x64x2048.size a ≤ S4x64x2048.size a := fun v46 k0_hw5 => k0_hw5

def k0_off11 (i : grid0.Coords) : Fin 1 → Nat :=
  let arg0 : BitVec 32 := BitVec.ofNat 32 (i 0).val
  let c16_i32_31 : BitVec 32 := 16#32
  let v53 : BitVec 32 := Scalar.muli arg0 c16_i32_31
  let c5_i32 : BitVec 32 := 5#32
  let v54 : BitVec 32 := Scalar.addi v53 c5_i32
  let v55 : Index := Scalar.indexCast v54
  ![v55.toNat]
def k0_off12 (v56 : BitVec 32) : Fin 3 → Nat :=
  let v57 : Index := Scalar.indexCast v56
  let c0_32 : Index := 0#32
  let c0_33 : Index := 0#32
  ![v57.toNat, 0, 0]

def k0_chk6 (v56 : BitVec 32) : Prop :=
  (∀ a, (k0_off12 v56) a + S1x64x2048.size a ≤ S4x64x2048.size a)
theorem k0_off12_inb : ∀ (v56 : BitVec 32) (k0_hw6 : k0_chk6 v56), ∀ a, (k0_off12 v56) a + S1x64x2048.size a ≤ S4x64x2048.size a := fun v56 k0_hw6 => k0_hw6

def k0_off13 (i : grid0.Coords) : Fin 1 → Nat :=
  let arg0 : BitVec 32 := BitVec.ofNat 32 (i 0).val
  let c16_i32_37 : BitVec 32 := 16#32
  let v63 : BitVec 32 := Scalar.muli arg0 c16_i32_37
  let c6_i32 : BitVec 32 := 6#32
  let v64 : BitVec 32 := Scalar.addi v63 c6_i32
  let v65 : Index := Scalar.indexCast v64
  ![v65.toNat]
def k0_off14 (v66 : BitVec 32) : Fin 3 → Nat :=
  let v67 : Index := Scalar.indexCast v66
  let c0_38 : Index := 0#32
  let c0_39 : Index := 0#32
  ![v67.toNat, 0, 0]

def k0_chk7 (v66 : BitVec 32) : Prop :=
  (∀ a, (k0_off14 v66) a + S1x64x2048.size a ≤ S4x64x2048.size a)
theorem k0_off14_inb : ∀ (v66 : BitVec 32) (k0_hw7 : k0_chk7 v66), ∀ a, (k0_off14 v66) a + S1x64x2048.size a ≤ S4x64x2048.size a := fun v66 k0_hw7 => k0_hw7

def k0_off15 (i : grid0.Coords) : Fin 1 → Nat :=
  let arg0 : BitVec 32 := BitVec.ofNat 32 (i 0).val
  let c16_i32_43 : BitVec 32 := 16#32
  let v73 : BitVec 32 := Scalar.muli arg0 c16_i32_43
  let c7_i32 : BitVec 32 := 7#32
  let v74 : BitVec 32 := Scalar.addi v73 c7_i32
  let v75 : Index := Scalar.indexCast v74
  ![v75.toNat]
def k0_off16 (v76 : BitVec 32) : Fin 3 → Nat :=
  let v77 : Index := Scalar.indexCast v76
  let c0_44 : Index := 0#32
  let c0_45 : Index := 0#32
  ![v77.toNat, 0, 0]

def k0_chk8 (v76 : BitVec 32) : Prop :=
  (∀ a, (k0_off16 v76) a + S1x64x2048.size a ≤ S4x64x2048.size a)
theorem k0_off16_inb : ∀ (v76 : BitVec 32) (k0_hw8 : k0_chk8 v76), ∀ a, (k0_off16 v76) a + S1x64x2048.size a ≤ S4x64x2048.size a := fun v76 k0_hw8 => k0_hw8

def k0_off17 (i : grid0.Coords) : Fin 1 → Nat :=
  let arg0 : BitVec 32 := BitVec.ofNat 32 (i 0).val
  let c16_i32_49 : BitVec 32 := 16#32
  let v83 : BitVec 32 := Scalar.muli arg0 c16_i32_49
  let c8_i32 : BitVec 32 := 8#32
  let v84 : BitVec 32 := Scalar.addi v83 c8_i32
  let v85 : Index := Scalar.indexCast v84
  ![v85.toNat]
def k0_off18 (v86 : BitVec 32) : Fin 3 → Nat :=
  let v87 : Index := Scalar.indexCast v86
  let c0_50 : Index := 0#32
  let c0_51 : Index := 0#32
  ![v87.toNat, 0, 0]

def k0_chk9 (v86 : BitVec 32) : Prop :=
  (∀ a, (k0_off18 v86) a + S1x64x2048.size a ≤ S4x64x2048.size a)
theorem k0_off18_inb : ∀ (v86 : BitVec 32) (k0_hw9 : k0_chk9 v86), ∀ a, (k0_off18 v86) a + S1x64x2048.size a ≤ S4x64x2048.size a := fun v86 k0_hw9 => k0_hw9

def k0_off19 (i : grid0.Coords) : Fin 1 → Nat :=
  let arg0 : BitVec 32 := BitVec.ofNat 32 (i 0).val
  let c16_i32_55 : BitVec 32 := 16#32
  let v93 : BitVec 32 := Scalar.muli arg0 c16_i32_55
  let c9_i32 : BitVec 32 := 9#32
  let v94 : BitVec 32 := Scalar.addi v93 c9_i32
  let v95 : Index := Scalar.indexCast v94
  ![v95.toNat]
def k0_off20 (v96 : BitVec 32) : Fin 3 → Nat :=
  let v97 : Index := Scalar.indexCast v96
  let c0_56 : Index := 0#32
  let c0_57 : Index := 0#32
  ![v97.toNat, 0, 0]

def k0_chk10 (v96 : BitVec 32) : Prop :=
  (∀ a, (k0_off20 v96) a + S1x64x2048.size a ≤ S4x64x2048.size a)
theorem k0_off20_inb : ∀ (v96 : BitVec 32) (k0_hw10 : k0_chk10 v96), ∀ a, (k0_off20 v96) a + S1x64x2048.size a ≤ S4x64x2048.size a := fun v96 k0_hw10 => k0_hw10

def k0_off21 (i : grid0.Coords) : Fin 1 → Nat :=
  let arg0 : BitVec 32 := BitVec.ofNat 32 (i 0).val
  let c16_i32_61 : BitVec 32 := 16#32
  let v103 : BitVec 32 := Scalar.muli arg0 c16_i32_61
  let c10_i32 : BitVec 32 := 10#32
  let v104 : BitVec 32 := Scalar.addi v103 c10_i32
  let v105 : Index := Scalar.indexCast v104
  ![v105.toNat]
def k0_off22 (v106 : BitVec 32) : Fin 3 → Nat :=
  let v107 : Index := Scalar.indexCast v106
  let c0_62 : Index := 0#32
  let c0_63 : Index := 0#32
  ![v107.toNat, 0, 0]

def k0_chk11 (v106 : BitVec 32) : Prop :=
  (∀ a, (k0_off22 v106) a + S1x64x2048.size a ≤ S4x64x2048.size a)
theorem k0_off22_inb : ∀ (v106 : BitVec 32) (k0_hw11 : k0_chk11 v106), ∀ a, (k0_off22 v106) a + S1x64x2048.size a ≤ S4x64x2048.size a := fun v106 k0_hw11 => k0_hw11

def k0_off23 (i : grid0.Coords) : Fin 1 → Nat :=
  let arg0 : BitVec 32 := BitVec.ofNat 32 (i 0).val
  let c16_i32_67 : BitVec 32 := 16#32
  let v113 : BitVec 32 := Scalar.muli arg0 c16_i32_67
  let c11_i32 : BitVec 32 := 11#32
  let v114 : BitVec 32 := Scalar.addi v113 c11_i32
  let v115 : Index := Scalar.indexCast v114
  ![v115.toNat]
def k0_off24 (v116 : BitVec 32) : Fin 3 → Nat :=
  let v117 : Index := Scalar.indexCast v116
  let c0_68 : Index := 0#32
  let c0_69 : Index := 0#32
  ![v117.toNat, 0, 0]

def k0_chk12 (v116 : BitVec 32) : Prop :=
  (∀ a, (k0_off24 v116) a + S1x64x2048.size a ≤ S4x64x2048.size a)
theorem k0_off24_inb : ∀ (v116 : BitVec 32) (k0_hw12 : k0_chk12 v116), ∀ a, (k0_off24 v116) a + S1x64x2048.size a ≤ S4x64x2048.size a := fun v116 k0_hw12 => k0_hw12

def k0_off25 (i : grid0.Coords) : Fin 1 → Nat :=
  let arg0 : BitVec 32 := BitVec.ofNat 32 (i 0).val
  let c16_i32_73 : BitVec 32 := 16#32
  let v123 : BitVec 32 := Scalar.muli arg0 c16_i32_73
  let c12_i32 : BitVec 32 := 12#32
  let v124 : BitVec 32 := Scalar.addi v123 c12_i32
  let v125 : Index := Scalar.indexCast v124
  ![v125.toNat]
def k0_off26 (v126 : BitVec 32) : Fin 3 → Nat :=
  let v127 : Index := Scalar.indexCast v126
  let c0_74 : Index := 0#32
  let c0_75 : Index := 0#32
  ![v127.toNat, 0, 0]

def k0_chk13 (v126 : BitVec 32) : Prop :=
  (∀ a, (k0_off26 v126) a + S1x64x2048.size a ≤ S4x64x2048.size a)
theorem k0_off26_inb : ∀ (v126 : BitVec 32) (k0_hw13 : k0_chk13 v126), ∀ a, (k0_off26 v126) a + S1x64x2048.size a ≤ S4x64x2048.size a := fun v126 k0_hw13 => k0_hw13

def k0_off27 (i : grid0.Coords) : Fin 1 → Nat :=
  let arg0 : BitVec 32 := BitVec.ofNat 32 (i 0).val
  let c16_i32_79 : BitVec 32 := 16#32
  let v133 : BitVec 32 := Scalar.muli arg0 c16_i32_79
  let c13_i32 : BitVec 32 := 13#32
  let v134 : BitVec 32 := Scalar.addi v133 c13_i32
  let v135 : Index := Scalar.indexCast v134
  ![v135.toNat]
def k0_off28 (v136 : BitVec 32) : Fin 3 → Nat :=
  let v137 : Index := Scalar.indexCast v136
  let c0_80 : Index := 0#32
  let c0_81 : Index := 0#32
  ![v137.toNat, 0, 0]

def k0_chk14 (v136 : BitVec 32) : Prop :=
  (∀ a, (k0_off28 v136) a + S1x64x2048.size a ≤ S4x64x2048.size a)
theorem k0_off28_inb : ∀ (v136 : BitVec 32) (k0_hw14 : k0_chk14 v136), ∀ a, (k0_off28 v136) a + S1x64x2048.size a ≤ S4x64x2048.size a := fun v136 k0_hw14 => k0_hw14

def k0_off29 (i : grid0.Coords) : Fin 1 → Nat :=
  let arg0 : BitVec 32 := BitVec.ofNat 32 (i 0).val
  let c16_i32_85 : BitVec 32 := 16#32
  let v143 : BitVec 32 := Scalar.muli arg0 c16_i32_85
  let c14_i32 : BitVec 32 := 14#32
  let v144 : BitVec 32 := Scalar.addi v143 c14_i32
  let v145 : Index := Scalar.indexCast v144
  ![v145.toNat]
def k0_off30 (v146 : BitVec 32) : Fin 3 → Nat :=
  let v147 : Index := Scalar.indexCast v146
  let c0_86 : Index := 0#32
  let c0_87 : Index := 0#32
  ![v147.toNat, 0, 0]

def k0_chk15 (v146 : BitVec 32) : Prop :=
  (∀ a, (k0_off30 v146) a + S1x64x2048.size a ≤ S4x64x2048.size a)
theorem k0_off30_inb : ∀ (v146 : BitVec 32) (k0_hw15 : k0_chk15 v146), ∀ a, (k0_off30 v146) a + S1x64x2048.size a ≤ S4x64x2048.size a := fun v146 k0_hw15 => k0_hw15

def k0_off31 (i : grid0.Coords) : Fin 1 → Nat :=
  let arg0 : BitVec 32 := BitVec.ofNat 32 (i 0).val
  let c16_i32_91 : BitVec 32 := 16#32
  let v153 : BitVec 32 := Scalar.muli arg0 c16_i32_91
  let c15_i32 : BitVec 32 := 15#32
  let v154 : BitVec 32 := Scalar.addi v153 c15_i32
  let v155 : Index := Scalar.indexCast v154
  ![v155.toNat]
def k0_off32 (v156 : BitVec 32) : Fin 3 → Nat :=
  let v157 : Index := Scalar.indexCast v156
  let c0_92 : Index := 0#32
  let c0_93 : Index := 0#32
  ![v157.toNat, 0, 0]

def k0_chk16 (v156 : BitVec 32) : Prop :=
  (∀ a, (k0_off32 v156) a + S1x64x2048.size a ≤ S4x64x2048.size a)
theorem k0_off32_inb : ∀ (v156 : BitVec 32) (k0_hw16 : k0_chk16 v156), ∀ a, (k0_off32 v156) a + S1x64x2048.size a ≤ S4x64x2048.size a := fun v156 k0_hw16 => k0_hw16

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S1x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x2048 : Shape := ⟨2, ![1, 2048]⟩
abbrev S16x64 : Shape := ⟨2, ![16, 64]⟩
abbrev S1x2048x1 : Shape := ⟨3, ![1, 2048, 1]⟩
abbrev S_ : Shape := ⟨0, ![]⟩
abbrev S1x1x2048 : Shape := ⟨3, ![1, 1, 2048]⟩
abbrev S1x2048x2048 : Shape := ⟨3, ![1, 2048, 2048]⟩
abbrev S1x2048x2048x1 : Shape := ⟨4, ![1, 2048, 2048, 1]⟩
abbrev S1 : Shape := ⟨1, ![1]⟩
abbrev S1x1x1x1 : Shape := ⟨4, ![1, 1, 1, 1]⟩
abbrev S1x2048x2048x64 : Shape := ⟨4, ![1, 2048, 2048, 64]⟩

abbrev nBuf : Space → Nat
  | .hbm => 33
  | .vmem => 0
  | .smem => 0
  | _ => 0

abbrev bufTy : (tb : Table) → Fin (tcTables nBuf tb) → BufTy
  | .hbm, ⟨0, _⟩ => ⟨S1x2048, .i32⟩
  | .hbm, ⟨1, _⟩ => ⟨S16x64, .f32⟩
  | .hbm, ⟨2, _⟩ => ⟨S1x2048x1, .i32⟩
  | .hbm, ⟨3, _⟩ => ⟨S_, .i32⟩
  | .hbm, ⟨4, _⟩ => ⟨S1x2048x1, .i32⟩
  | .hbm, ⟨5, _⟩ => ⟨S1x2048x1, .i32⟩
  | .hbm, ⟨6, _⟩ => ⟨S1x1x2048, .i32⟩
  | .hbm, ⟨7, _⟩ => ⟨S1x2048x2048, .i32⟩
  | .hbm, ⟨8, _⟩ => ⟨S1x2048x2048, .i32⟩
  | .hbm, ⟨9, _⟩ => ⟨S1x2048x2048, .i32⟩
  | .hbm, ⟨10, _⟩ => ⟨S_, .i32⟩
  | .hbm, ⟨11, _⟩ => ⟨S1x2048x2048, .i32⟩
  | .hbm, ⟨12, _⟩ => ⟨S1x2048x2048, .i1⟩
  | .hbm, ⟨13, _⟩ => ⟨S_, .i32⟩
  | .hbm, ⟨14, _⟩ => ⟨S1x2048x2048, .i32⟩
  | .hbm, ⟨15, _⟩ => ⟨S1x2048x2048, .i32⟩
  | .hbm, ⟨16, _⟩ => ⟨S1x2048x2048, .i32⟩
  | .hbm, ⟨17, _⟩ => ⟨S1x2048x2048x1, .i32⟩
  | .hbm, ⟨18, _⟩ => ⟨S1, .i32⟩
  | .hbm, ⟨19, _⟩ => ⟨S_, .i32⟩
  | .hbm, ⟨20, _⟩ => ⟨S1x2048x2048x1, .i32⟩
  | .hbm, ⟨21, _⟩ => ⟨S1x2048x2048x1, .i1⟩
  | .hbm, ⟨22, _⟩ => ⟨S1x1x1x1, .i32⟩
  | .hbm, ⟨23, _⟩ => ⟨S1x2048x2048x1, .i32⟩
  | .hbm, ⟨24, _⟩ => ⟨S1x2048x2048x1, .i1⟩
  | .hbm, ⟨25, _⟩ => ⟨S1x2048x2048x1, .i1⟩
  | .hbm, ⟨26, _⟩ => ⟨S_, .i1⟩
  | .hbm, ⟨27, _⟩ => ⟨S1x2048x2048, .i1⟩
  | .hbm, ⟨28, _⟩ => ⟨S1x2048x2048x64, .f32⟩
  | .hbm, ⟨29, _⟩ => ⟨S1x2048x2048x64, .i1⟩
  | .hbm, ⟨30, _⟩ => ⟨S_, .f32⟩
  | .hbm, ⟨31, _⟩ => ⟨S1x2048x2048x64, .f32⟩
  | .hbm, ⟨32, _⟩ => ⟨S1x2048x2048x64, .f32⟩
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v7 : Ref sig .tc := ⟨.hbm, 32, rfl⟩

abbrev nD : Nat := 1
abbrev τ : Topo := Topo.v7x

variable {F : FTy → Type} [FloatOps F]
-- ==== Proof.Range.lean ====
/- Hand-written, untrusted: THE PRECONDITION AT ONE WORD. The precondition is the `jnp.all` of `0 ≤ e` and `e < 4`; read at an
   element it bounds that evidence type in [0, 4). And the arithmetic which the bound is for: a slice of one plane of 64 × 2048,
   taken at a plane below 4, lies inside the slab of four planes. -/
module

public import proofs.«01_k».proof.Proof.Gen.Pre_evidence_range
public import Idealize.ShloMosaic.Lib.ReduceAll

@[expose] public section

namespace Cert.Proof

open Idealize.ShloMosaic Cert.Pre_evidence_range

/-- The rank-0 shape has one index. -/
instance : Subsingleton S_.Idx := ⟨fun _ _ => funext fun a => a.elim0⟩

/-- Where the precondition holds of `e`, every evidence type is below 4 (as a natural number, so none is negative). -/
theorem lt_four {F : FTy → Type} [FloatOps F] (e : IVec S1x2048 32) (W : FVec F S16x64 .f32)
    (h : Cert.Pre_evidence_range.fn e W = fun _ => 1#1) (y : S1x2048.Idx) : (e y).toNat < 4 := by
  have h1 := Host.reduce_andi_all _ _ _ _ (fun a => a.elim0) (congrFun h _) y
  obtain ⟨hge, hlt⟩ := IntOp.andi_eq_one.1 h1
  have hge := IntOp.cmpi_sge.1 hge
  have hlt := IntOp.cmpi_slt.1 hlt
  simp only [broadcastInDim, constantI, BitVec.toInt, BitVec.toNat_ofNat] at hge hlt
  omega

/-- One plane of the slab, at a plane index below 4, lies inside the slab of four planes. -/
theorem plane_inb (v : BitVec 32) (h : v.toNat < 4) :
    ∀ a : Fin 3, (![v.toNat, 0, 0] : Fin 3 → ℕ) a + (![1, 64, 2048] : Fin 3 → ℕ) a ≤ (![4, 64, 2048] : Fin 3 → ℕ) a := by
  intro a
  fin_cases a <;> simp <;> omega

end Cert.Proof
-- ==== Proof.IdealHyps.lean ====
/- Hand-written, untrusted: THE WORDS THAT THE BODY READS OFF ITS PREFETCHED TABLE, for the program `KernelIdeal` and at any
   float operations. The table is the evidence row itself (`tbl_apply`), and the row that the body picks at a grid point is
   its word at that row (`word_eq`); a bound of every evidence type by 4 is therefore the side condition of every slab read
   (`hyps_of_lt`). -/
module

public import proofs.«01_k».proof.Proof.Range
public import proofs.«01_k».proof.Proof.Gen.KernelIdeal.Frame
public import Idealize.ShloMosaic.Lib.Claim
public import Idealize.ShloMosaic.Lib.Pointwise

@[expose] public section

namespace Cert.Proof.PI

open Cert.KernelIdeal Cert.KernelIdeal.Gen
open Idealize.ShloMosaic Idealize.ShloMosaic.TcCoe

variable {F : FTy → Type} [FloatOps F] (m : (ℓ : Loc nD τ sig) → Buf (Elt F) ℓ)

/-- The evidence row as launched. -/
abbrev E : IVec S1x2048 32 := m (((0 : Dev nD).tc : Thread nD τ).loc main_arg0)

/-- No index map reads the table, so the launch asks nothing of it. -/
theorem ok : Ok m := trivial

/-- The prefetched table holds the evidence row. -/
theorem tbl_apply (y : S2048.Idx) : (tbl m 0 : IVec S2048 32) y = E m (ix2 (0 : Fin 1) (y 0)) := by
  have h : V m 0 main_v0 = shapeCast S2048 (E m) shapeCasts_S1x2048_S2048 := by entry_read; rfl
  refine (congrFun h y).trans ?_
  pointwise

/-- A word loaded from the table at one offset is the evidence type there. -/
theorem load_eq (off : Fin 1 → ℕ) (inb : ∀ a, off a + S1.size a ≤ S2048.size a) (j : Fin 2048) (hj : off 0 = j.val) (z : S1.Idx) :
    tbM0_0.view.readAt (Elt F) (Rect.unit (s := S2048) off S1.size inb).toLoadRect (tbl m 0) z = E m (ix2 (0 : Fin 1) j) := by
  refine (tbl_apply m _).trans (congrArg (E m) ?_)
  have hz : (z 0).val < 1 := (z 0).isLt
  refine congrArg (ix2 (0 : Fin 1)) (Fin.ext ?_)
  show off 0 + 1 * (z 0).val = j.val
  omega

/-- Where every evidence type is below 4, every slab read is inside the slab. -/
theorem hyps_of_lt (h : ∀ y, (E m y).toNat < 4) : Hyps m (ok m) := by
  have rd : ∀ (off : Fin 1 → ℕ) (inb : ∀ a, off a + S1.size a ≤ S2048.size a) (z : S1.Idx),
      BitVec.toNat (w := 32) (tbM0_0.view.readAt (Elt F) (Rect.unit (s := S2048) off S1.size inb).toLoadRect (tbl m 0) z) < 4 := fun off inb z => by
    rw [load_eq m off inb ⟨off 0, by have := inb 0; simp at this; omega⟩ rfl]; exact h _
  intro c t
  and_intros <;> exact plane_inb _ (rd _ _ _)

end Cert.Proof.PI
-- ==== Proof.Block.lean ====
/- Hand-written, untrusted: WHAT ONE GRID POINT STORES into its block of the result. Sixteen stores, one per row of the block,
   each of one plane of the slab that the scratch holds when they are made. The stores are stated ONCE, as a family over the
   row (`stores`) and over the scratch's contents; both kinds of grid point (the first, which fills the slab before, and the
   others) make this family. -/
module

public import proofs.«01_k».proof.Proof.IdealHyps
public import Idealize.ShloMosaic.Lib.Pipeline.ValueKit
public import Idealize.ShloMosaic.Lib.Pipeline.ReadBack

@[expose] public section

set_option maxRecDepth 16384

namespace Cert.Proof.PI

open Cert.KernelIdeal Cert.KernelIdeal.Gen
open Idealize.ShloMosaic Idealize.ShloMosaic.TcCoe

variable {F : FTy → Type} [FloatOps F] (m : (ℓ : Loc nD τ sig) → Buf (Elt F) ℓ)

/-- The row of the result that grid point `t` stores at place `k` of its block. -/
def row (t : Fin grid0.N) (k : Fin 16) : Fin 2048 := ⟨16 * t.val + k.val, by have := Nat.lt_of_lt_of_eq t.isLt N_0; omega⟩

/-- The plane of the slab that an evidence type names. -/
def plane (v : BitVec 32) : Fin 4 := ⟨v.toNat % 4, Nat.mod_lt _ (by decide)⟩

/-- The block that grid point `t` leaves in the result, the slab being `S`: at place `k` the plane of row `16 t + k`'s evidence type. -/
def blk (S : Vec F S4x64x2048 .f32) (t : Fin grid0.N) : Vec F S1x16x64x2048 .f32 := fun y =>
  S (ix3 (plane (E m (ix2 (0 : Fin 1) (row t (y 1))))) (y 2) (y 3))

/-- Where place `k` reads the table, as the body computes it in 32-bit words. -/
abbrev wordOff (t : Fin grid0.N) (k : Fin 16) : Fin 1 → ℕ :=
  ![(Scalar.indexCast (Scalar.addi (Scalar.muli (BitVec.ofNat 32 (grid0.coords t 0).val) 16#32) (BitVec.ofNat 32 k.val))).toNat]

/-- That place is the row: no word overflows. -/
theorem wordOff_eq (t : Fin grid0.N) (k : Fin 16) : wordOff t k 0 = (row t k).val := by
  have ht : t.val < 128 := Nat.lt_of_lt_of_eq t.isLt N_0
  have e0 : (grid0.coords t 0).val = t.val / 1 % 128 := Pipeline.Grid.coords_val t 0 (by decide) rfl
  have hk := k.isLt
  simp only [wordOff, row, e0, Scalar.indexCast, Scalar.addi, Scalar.muli, IntOp.addi, IntOp.muli, Matrix.cons_val_zero]
  simp only [BitVec.toNat_add, BitVec.toNat_mul, BitVec.toNat_ofNat]
  omega

/-- The word read there. -/
abbrev word (t : Fin grid0.N) (k : Fin 16) : BitVec 32 :=
  tbM0_0.view.readAt (Elt F) (Rect.unit (s := S2048) (wordOff t k) S1.size
    (fun a => by obtain rfl : a = 0 := Subsingleton.elim _ _; rw [wordOff_eq]; exact (row t k).isLt)).toLoadRect (tbl m 0)
    (Shape.Idx.first (numel1_S1.symm ▸ Nat.one_pos))

theorem word_eq (t : Fin grid0.N) (k : Fin 16) : word m t k = E m (ix2 (0 : Fin 1) (row t k)) :=
  load_eq m _ _ (row t k) (wordOff_eq t k) _

variable {m} in
theorem word_lt (h : ∀ y, (E m y).toNat < 4) (t : Fin grid0.N) (k : Fin 16) : (word m t k).toNat < 4 := by
  rw [word_eq]; exact h _

/-- Place `k` of the block lies within it. -/
theorem piece_inb (k : Fin 16) : ∀ a : Fin 4, (![0, k.val, 0, 0] : Fin 4 → ℕ) a + S1x1x64x2048.size a ≤ S1x16x64x2048.size a := fun a => by
  have := k.isLt
  fin_cases a
  · exact Nat.le_refl _
  · show k.val + 1 ≤ 16; omega
  · exact Nat.le_refl _
  · exact Nat.le_refl _

/-- Place `k` of the block, as a rectangle. -/
abbrev slot (k : Fin 16) : Rect S1x16x64x2048 := Rect.unit (s := S1x16x64x2048) ![0, k.val, 0, 0] S1x1x64x2048.size (piece_inb k)

theorem slot_emb (k : Fin 16) (x : S1x1x64x2048.Idx) : (slot k).emb x = ix4 (0 : Fin 1) k (x 2) (x 3) := by
  have h0 : (x 0).val < 1 := (x 0).isLt
  have h1 : (x 1).val < 1 := (x 1).isLt
  funext a
  apply Fin.ext
  fin_cases a
  · show 0 + 1 * (x 0).val = 0; omega
  · show k.val + 1 * (x 1).val = k.val; omega
  · show 0 + 1 * (x 2).val = (x 2).val; omega
  · show 0 + 1 * (x 3).val = (x 3).val; omega

/-- What place `k` stores when the word read is `v`: that plane of the scratch's contents `f`, reshaped. -/
abbrev pay (f : scM0_0.view.ty.Contents (Elt F)) (v : BitVec 32) (hv : v.toNat < 4) : Vec F S1x1x64x2048 .f32 :=
  shapeCast S1x1x64x2048 (shapeCast S64x2048
    (scM0_0.view.readAt (Elt F) (Rect.unit (s := S4x64x2048) ![v.toNat, 0, 0] S1x64x2048.size (plane_inb v hv)).toLoadRect f)
    shapeCasts_S1x64x2048_S64x2048) shapeCasts_S64x2048_S1x1x64x2048

/-- The two reshapes keep the plane's coordinates. -/
theorem reshape_apply (w : Vec F S1x64x2048 .f32) (x : S1x1x64x2048.Idx) :
    shapeCast S1x1x64x2048 (shapeCast S64x2048 w shapeCasts_S1x64x2048_S64x2048) shapeCasts_S64x2048_S1x1x64x2048 x
      = w (ix3 (0 : Fin 1) (x 2) (x 3)) := by
  pointwise

theorem pay_apply (f : scM0_0.view.ty.Contents (Elt F)) (v : BitVec 32) (hv : v.toNat < 4) (x : S1x1x64x2048.Idx) :
    pay f v hv x = scM0_0.view.read (Elt F) f (ix3 (plane v) (x 2) (x 3)) := by
  have h0 : (x 0).val < 1 := (x 0).isLt
  have h1 : (x 1).val < 1 := (x 1).isLt
  refine (reshape_apply _ x).trans ?_
  show scM0_0.view.read (Elt F) f ((Rect.unit (s := S4x64x2048) ![v.toNat, 0, 0] S1x64x2048.size (plane_inb v hv)).idx (ix3 (0 : Fin 1) (x 2) (x 3))) = _
  congr 1
  funext a
  apply Fin.ext
  fin_cases a
  · show v.toNat + 1 * 0 = v.toNat % 4; omega
  · show 0 + 1 * (x 2).val = (x 2).val; omega
  · show 0 + 1 * (x 3).val = (x 3).val; omega

variable {m} in
/-- Place `k`'s store: the plane that its word names, read off the scratch's contents `f`. -/
abbrev piece (h : ∀ y, (E m y).toNat < 4) (f : scM0_0.view.ty.Contents (Elt F)) (t : Fin grid0.N) (k : Fin 16) :
    View.Piece (Elt F) S1x16x64x2048 .f32 := ⟨slot k, pay f (word m t k) (word_lt h t k)⟩

variable {m} in
/-- The sixteen stores of a grid point, last first. -/
abbrev stores (h : ∀ y, (E m y).toNat < 4) (f : scM0_0.view.ty.Contents (Elt F)) (t : Fin grid0.N) :
    List (View.Piece (Elt F) S1x16x64x2048 .f32) :=
  ([15, 14, 13, 12, 11, 10, 9, 8, 7, 6, 5, 4, 3, 2, 1, 0] : List (Fin 16)).map (piece h f t)

variable {m} in
/-- Each store is its place of the block. -/
theorem piece_apply (h : ∀ y, (E m y).toNat < 4) (f : scM0_0.view.ty.Contents (Elt F)) (t : Fin grid0.N) (k : Fin 16)
    (x : S1x1x64x2048.Idx) :
    pay f (word m t k) (word_lt h t k) x = blk m (scM0_0.view.read (Elt F) f) t ((slot k).emb x) := by
  rw [slot_emb, pay_apply, word_eq]
  rfl

variable {m} in
/-- THE BLOCK AFTER THE SIXTEEN STORES, the scratch holding the slab `S`. -/
theorem stores_apply (h : ∀ y, (E m y).toNat < 4) (f : scM0_0.view.ty.Contents (Elt F)) (S : Vec F S4x64x2048 .f32)
    (hf : scM0_0.view.read (Elt F) f = S) (t : Fin grid0.N) (y : S1x16x64x2048.Idx) :
    VO0_2.read (Elt F) (VO0_2.writes (Elt F) VO0_2.junk (stores h f t)) y = blk m S t y := by
  subst hf
  rw [View.read_writes_junk_eq_canon]
  have hp : ∀ p ∈ stores h f t, ∀ x : p.1.shape.Idx, p.2 x = blk m (scM0_0.view.read (Elt F) f) t (p.1.emb x) := fun p hp x => by
    obtain ⟨k, -, rfl⟩ := List.mem_map.1 hp
    exact piece_apply h f t k x
  have := View.canon_append_of_pieces (blk m _ t) [] _ hp y (View.cover_of_tiledL (stores h f t) S1x1x64x2048.size (by sl_kernel_rfl) y)
  rwa [List.append_nil] at this

variable {m} in
/-- A grid point after the first leaves the block read off the slab that it was handed. -/
theorem out_B (h : ∀ y, (E m y).toNat < 4) (hH : Hyps m (ok m)) (c : Dev nD) (t : Fin (cfgM m (ok m)).N) (h0 : ¬t.val % 128 = 0) :
    (outsAt0 m (ok m) hH c t.val t.isLt).1
      = blk m (outsAt0 m (ok m) hH c (t.val - 1) (Nat.lt_of_le_of_lt (Nat.sub_le _ _) t.isLt)).2 t := by
  rw [outsAt0_B m (ok m) hH c t h0]
  generalize (outsAt0 m (ok m) hH c (t.val - 1) (Nat.lt_of_le_of_lt (Nat.sub_le _ _) t.isLt)).2 = X
  funext x
  refine Eq.trans ?_ (stores_apply h ((Memref.isWhole_whole cc0_scratch0 : scM0_0.IsWhole).unread X) X
    (Memref.IsWhole.read_unread (m := scM0_0) _ X) t x)
  frame_open
  dsimp only
  refine congrFun (congrArg (fun L => VO0_2.read (Elt F) (VO0_2.writes (Elt F) VO0_2.junk L)) ?_) x
  iterate 16 refine congrArg₂ List.cons rfl ?_
  rfl

variable {m} in
/-- It hands the slab on as it is. -/
theorem slab_B (hH : Hyps m (ok m)) (c : Dev nD) (t : Fin (cfgM m (ok m)).N) (h0 : ¬t.val % 128 = 0) :
    (outsAt0 m (ok m) hH c t.val t.isLt).2
      = (outsAt0 m (ok m) hH c (t.val - 1) (Nat.lt_of_le_of_lt (Nat.sub_le _ _) t.isLt)).2 := by
  rw [outsAt0_B m (ok m) hH c t h0]
  rfl

/-- The relation table as the body loads it. -/
noncomputable abbrev wRead (c : Dev nD) (t : Fin (cfgM m (ok m)).N) : Vec F S16x64 .f32 :=
  View.readAt (Elt F) (ms0_1 m (ok m) t).view (Rect.unit (s := S16x64) ![0, 0] S16x64.size inb_S16x64_S16x64_0_0).toLoadRect
    ((hs0_1 m (ok m) t).unread (iblk m (ok m) c 1 t))

/-- The evidence types as the body loads them. -/
noncomputable abbrev eRead (c : Dev nD) (t : Fin (cfgM m (ok m)).N) : Vec F S1x2048 .i32 :=
  View.readAt (Elt F) (ms0_0 m (ok m) t).view (Rect.unit (s := S1x2048) ![0, 0] S1x2048.size inb_S1x2048_S1x2048_0_0).toLoadRect
    ((hs0_0 m (ok m) t).unread (iblk m (ok m) c 0 t))

/-- Plane `a` of the slab lies within it. -/
theorem layer_inb (a : Fin 4) : ∀ i : Fin 3, (![a.val, 0, 0] : Fin 3 → ℕ) i + S1x64x2048.size i ≤ S4x64x2048.size i := fun i => by
  have := a.isLt
  fin_cases i
  · show a.val + 1 ≤ 4; omega
  · exact Nat.le_refl _
  · exact Nat.le_refl _

/-- The rows of the table that plane `a` takes, as ones in a matrix: column `j` has its one at row `e j + 4 a`. -/
noncomputable abbrev hot (e : Vec F S1x2048 .i32) (a : Fin 4) : FVec F S16x2048 .f32 :=
  sitofp .f32 (extui 32 (cmpi .eq (iota .tc S16x2048 32 [0] iota_S16x2048_d0_w32)
    (broadcastTo S16x2048 (addi (shapeCast S1x2048 e shapeCasts_S1x2048_S1x2048) (broadcast S1x2048 (BitVec.ofNat 32 (4 * a.val))))
      broadcasts_S1x2048_S16x2048)) natLt_1_32)

/-- Plane `a` of the slab: the table, transposed, times that matrix. -/
noncomputable abbrev layer (W : Vec F S16x64 .f32) (e : Vec F S1x2048 .i32) (a : Fin 4) : Vec F S1x64x2048 .f32 :=
  shapeCast S1x64x2048 (matmul dot_S16x64_S16x2048_S64x2048_0_0_1_1_n_n none W (hot e a) (constant S64x2048 .f32 0x00000000#32)) shapeCasts_S64x2048_S1x64x2048

/-- The four stores that fill the slab, last first. -/
noncomputable abbrev layers (W : Vec F S16x64 .f32) (e : Vec F S1x2048 .i32) : List (View.Piece (Elt F) S4x64x2048 .f32) :=
  ([3, 2, 1, 0] : List (Fin 4)).map fun a => ⟨Rect.unit (s := S4x64x2048) ![a.val, 0, 0] S1x64x2048.size (layer_inb a), layer W e a⟩

variable {m} in
/-- The first grid point hands on the slab that the four stores fill. -/
theorem slab_A (hH : Hyps m (ok m)) (c : Dev nD) (t : Fin (cfgM m (ok m)).N) (h0 : t.val % 128 = 0) :
    (outsAt0 m (ok m) hH c t.val t.isLt).2
      = scM0_0.view.read (Elt F) (scM0_0.view.writes (Elt F) scM0_0.view.junk (layers (wRead m c t) (eRead m c t))) := by
  rw [outsAt0_A m (ok m) hH c t h0]
  frame_open
  dsimp only
  refine congrArg (fun L => VS0_0.read (Elt F) (VS0_0.writes (Elt F) VS0_0.junk L)) ?_
  iterate 4 refine congrArg₂ List.cons rfl ?_
  rfl

variable {m} in
/-- The first grid point leaves the block read off the slab that it has just filled. -/
theorem out_A (h : ∀ y, (E m y).toNat < 4) (hH : Hyps m (ok m)) (c : Dev nD) (t : Fin (cfgM m (ok m)).N) (h0 : t.val % 128 = 0) :
    (outsAt0 m (ok m) hH c t.val t.isLt).1 = blk m (outsAt0 m (ok m) hH c t.val t.isLt).2 t := by
  rw [slab_A hH c t h0, outsAt0_A m (ok m) hH c t h0]
  funext x
  refine Eq.trans ?_ (stores_apply h
    (scM0_0.view.writes (Elt F) scM0_0.view.junk (layers (wRead m c t) (eRead m c t))) _ rfl t x)
  frame_open
  dsimp only
  refine congrFun (congrArg (fun L => VO0_2.read (Elt F) (VO0_2.writes (Elt F) VO0_2.junk L)) ?_) x
  iterate 16 refine congrArg₂ List.cons rfl ?_
  rfl

end Cert.Proof.PI
-- ==== Proof.Slab.lean ====
/- Hand-written, untrusted: WHAT THE SLAB HOLDS, over the extended reals. Plane `a` at column `j` is row `4 a + e j` of the
   relation table: the product of the table with a matrix that has one 1 in each column. -/
module

public import proofs.«01_k».proof.Proof.Block

@[expose] public section

set_option maxRecDepth 16384

namespace Cert.Proof.PI

open Cert.KernelIdeal Cert.KernelIdeal.Gen
open Idealize.ShloMosaic Idealize.ShloMosaic.TcCoe

/-- The matrix of ones, at an index: no word overflows. -/
theorem hot_apply (e : Vec Ideal S1x2048 .i32) (he : ∀ y, BitVec.toNat (w := 32) (e y) < 4) (a : Fin 4) (r : Fin 16) (j : Fin 2048) :
    (hot e a (ix2 r j) : EReal) = if r.val = BitVec.toNat (w := 32) (e (ix2 (0 : Fin 1) j)) + 4 * a.val then 1 else 0 := by
  pointwise
  have h1 := he (ix2 (0 : Fin 1) j)
  have h2 : r.val < 16 := r.isLt
  have h3 : a.val < 4 := a.isLt
  generalize e (ix2 (0 : Fin 1) j) = v at h1
  change BitVec 32 at v
  have hv : BitVec.ofNat 32 r.val = v + BitVec.ofNat 32 (4 * a.val) ↔ r.val = v.toNat + 4 * a.val := by
    rw [← BitVec.toNat_inj, BitVec.toNat_add, BitVec.toNat_ofNat, BitVec.toNat_ofNat]
    omega
  by_cases hr : r.val = v.toNat + 4 * a.val
  · have hc : IntOp.cmpi CmpIPredicate.eq (BitVec.ofNat 32 r.val) (IntOp.addi v (BitVec.ofNat 32 (4 * a.val))) = 1#1 := by
      simp [IntOp.cmpi, IntOp.addi, hv.2 hr]
    rw [if_pos hr, hc]
    show (((BitVec.setWidth 32 1#1).toInt : ℝ) : EReal) = 1
    norm_num
  · have hc : IntOp.cmpi CmpIPredicate.eq (BitVec.ofNat 32 r.val) (IntOp.addi v (BitVec.ofNat 32 (4 * a.val))) = 0#1 := by
      have hne : ¬BitVec.ofNat 32 r.val = v + BitVec.ofNat 32 (4 * a.val) := mt hv.1 hr
      simp only [IntOp.cmpi, IntOp.addi, beq_eq_false_iff_ne.2 hne]
      rfl
    rw [if_neg hr, hc]
    show (((BitVec.setWidth 32 0#1).toInt : ℝ) : EReal) = 0
    norm_num

/-- A plane of the slab, at an index: the product is a sum over the table's rows. -/
theorem layer_apply (W : Vec Ideal S16x64 .f32) (e : Vec Ideal S1x2048 .i32) (a : Fin 4) (x : S1x64x2048.Idx) :
    (layer W e a x : EReal) = ∑ r : Fin 16, W (ix2 r (x 1)) * hot e a (ix2 r (x 2)) := by
  pointwise

/-- The row of the relation table for a pair of evidence types, the first naming the block of four rows. -/
def relRow (a b : Fin 4) : Fin 16 := ⟨4 * a.val + b.val, by omega⟩

/-- The slab: plane `a` at column `j` is the table's row for the pair `(a, e j)`. -/
def slab (W : Vec Ideal S16x64 .f32) (e : Vec Ideal S1x2048 .i32) : Vec Ideal S4x64x2048 .f32 := fun y =>
  W (ix2 (relRow (y 0) (plane (e (ix2 (0 : Fin 1) (y 2))))) (y 1))

/-- Of the sum one term is left: every other one is a product with zero. -/
theorem layer_eq (W : Vec Ideal S16x64 .f32) (e : Vec Ideal S1x2048 .i32) (he : ∀ y, BitVec.toNat (w := 32) (e y) < 4) (a : Fin 4)
    (x : S1x64x2048.Idx) : layer W e a x = slab W e (ix3 a (x 1) (x 2)) := by
  refine (layer_apply W e a x).trans ?_
  have h1 := he (ix2 (0 : Fin 1) (x 2))
  have hr : ∀ r : Fin 16, r.val = BitVec.toNat (w := 32) (e (ix2 (0 : Fin 1) (x 2))) + 4 * a.val
      ↔ r = relRow a (plane (e (ix2 (0 : Fin 1) (x 2)))) := fun r => by
    rw [Fin.ext_iff]
    show _ ↔ r.val = 4 * a.val + BitVec.toNat (w := 32) (e (ix2 (0 : Fin 1) (x 2))) % 4
    omega
  refine (Finset.sum_eq_single (relRow a (plane (e (ix2 (0 : Fin 1) (x 2))))) (fun r _ hne => ?_) (fun h => absurd (Finset.mem_univ _) h)).trans ?_
  · rw [hot_apply e he a r (x 2), if_neg (fun h => hne ((hr r).1 h)), mul_zero]
  · rw [hot_apply e he a _ (x 2), if_pos ((hr _).2 rfl), mul_one]
    rfl

/-- The four stores leave the slab. -/
theorem layers_eq (W : Vec Ideal S16x64 .f32) (e : Vec Ideal S1x2048 .i32) (he : ∀ y, BitVec.toNat (w := 32) (e y) < 4) :
    scM0_0.view.read (Elt Ideal) (scM0_0.view.writes (Elt Ideal) scM0_0.view.junk (layers W e)) = slab W e := by
  rw [View.read_writes_junk_eq_canon]
  funext y
  have hp : ∀ p ∈ layers W e, ∀ x : p.1.shape.Idx, p.2 x = slab W e (p.1.emb x) := fun p hp x => by
    obtain ⟨a, -, rfl⟩ := List.mem_map.1 hp
    refine (layer_eq W e he a x).trans (congrArg (slab W e) ?_)
    have h0 : (x 0).val < 1 := (x 0).isLt
    funext i
    apply Fin.ext
    fin_cases i
    · show a.val = a.val + 1 * (x 0).val; omega
    · show (x 1).val = 0 + 1 * (x 1).val; omega
    · show (x 2).val = 0 + 1 * (x 2).val; omega
  have := View.canon_append_of_pieces (slab W e) [] _ hp y (View.cover_of_tiledL (layers W e) S1x64x2048.size (by sl_kernel_rfl) y)
  rwa [List.append_nil] at this

/-- A load of a whole buffer that holds `X` reads `X`. -/
theorem load_whole {F : FTy → Type} [FloatOps F] {s : Shape} {e : EltTy} (b : Memref sig .tc .vmem s e) (h : b.IsWhole) (X : s.Idx → Elt F e)
    (off : Fin s.rank → ℕ) (inb) (hoff : ∀ a, off a = 0) :
    View.readAt (Elt F) b.view (Rect.unit (s := s) off s.size inb).toLoadRect (h.unread X) = X := by
  funext y
  rw [View.readAt_eq_ld, h.read_unread]
  exact View.ld_unit_apply_of X off s.size inb y y (fun a => by rw [hoff, Nat.zero_add])

variable {F : FTy → Type} [FloatOps F] (m : (ℓ : Loc nD τ sig) → Buf (Elt F) ℓ)

/-- The evidence types reach the body as they were given: two reshapes undo each other, and the window's one block is the array. -/
theorem eRead_eq (c : Dev nD) (t : Fin (cfgM m (ok m)).N) : eRead m c t = E m := by
  refine (load_whole (ms0_0 m (ok m) t) (hs0_0 m (ok m) t) (iblk m (ok m) c 0 t) _ _ (fun a => by fin_cases a <;> rfl)).trans ?_
  obtain rfl : c = 0 := Subsingleton.elim _ _
  funext y
  have he : (((cfgM m (ok m)).win 0).blk t).view.emb y = y := funext fun a => Fin.ext
    (Pipeline.Window.rect_emb_val_of_index_zero ((cfgM m (ok m)).win 0) t a (by fin_cases a <;> rfl) y)
  have hV : V m 0 main_v1 = shapeCast S1x2048 (shapeCast S2048 (E m) shapeCasts_S1x2048_S2048) shapeCasts_S2048_S1x2048 := by
    entry_read
    rfl
  refine Eq.trans (show _ = V m 0 main_v1 y from congrArg (V m 0 main_v1) he) ?_
  rw [hV, shapeCast_shapeCast]

/-- The relation table reaches the body as it was given. -/
theorem wRead_eq (c : Dev nD) (t : Fin (cfgM m (ok m)).N) : wRead m c t = m ((c : Thread nD τ).loc main_arg1) := by
  refine (load_whole (ms0_1 m (ok m) t) (hs0_1 m (ok m) t) (iblk m (ok m) c 1 t) _ _ (fun a => by fin_cases a <;> rfl)).trans ?_
  funext y
  have he : (((cfgM m (ok m)).win 1).blk t).view.emb y = y := funext fun a => Fin.ext
    (Pipeline.Window.rect_emb_val_of_index_zero ((cfgM m (ok m)).win 1) t a (by fin_cases a <;> rfl) y)
  exact (show _ = V m c main_arg1 y from congrArg (V m c main_arg1) he).trans (congrFun (V_main_arg1 m c) y)

section
variable {m : (ℓ : Loc nD τ sig) → Buf (Elt Ideal) ℓ}

/-- The relation table as the launch holds it. -/
abbrev T (m : (ℓ : Loc nD τ sig) → Buf (Elt Ideal) ℓ) : Vec Ideal S16x64 .f32 := m (((0 : Dev nD).tc : Thread nD τ).loc main_arg1)

/-- Every grid point hands on the one slab: the first fills it, the others leave it. -/
theorem slab_eq (h : ∀ y, (E m y).toNat < 4) (hH : Hyps m (ok m)) (c : Dev nD) : ∀ (n : ℕ) (hn : n < (cfgM m (ok m)).N),
    (outsAt0 m (ok m) hH c n hn).2 = slab (T m) (E m)
  | 0, hn => by
    obtain rfl : c = 0 := Subsingleton.elim _ _
    rw [slab_A hH 0 ⟨0, hn⟩ rfl, eRead_eq, wRead_eq]
    exact layers_eq (T m) (E m) h
  | n + 1, hn => by
    have hN : n + 1 < 128 := Nat.lt_of_lt_of_eq hn N_0
    rw [slab_B hH c ⟨n + 1, hn⟩ (by dsimp only; omega)]
    exact slab_eq h hH c n _

/-- So every grid point leaves its block read off that slab. -/
theorem out_eq (h : ∀ y, (E m y).toNat < 4) (hH : Hyps m (ok m)) (c : Dev nD) (t : Fin (cfgM m (ok m)).N) :
    (outsAt0 m (ok m) hH c t.val t.isLt).1 = blk m (slab (T m) (E m)) t := by
  by_cases h0 : t.val % 128 = 0
  · rw [out_A h hH c t h0, slab_eq h]
  · rw [out_B h hH c t h0, slab_eq h]

end

end Cert.Proof.PI
-- ==== Proof.Array.lean ====
/- Hand-written, untrusted: THE KERNEL'S RUN, read at its result. The blocks of the 128 grid points tile the array that the
   call writes; the transposition after the call makes it the result: at (i, j) the relation table's row for the pair of
   evidence types (e i, e j). -/
module

public import proofs.«01_k».proof.Proof.Slab
public import Idealize.ShloMosaic.Lib.Pipeline.ValueKit
public import Idealize.ShloMosaic.Lib.Claim

@[expose] public section

set_option maxRecDepth 16384

namespace Cert.Proof.PI

open Cert.KernelIdeal Cert.KernelIdeal.Gen
open Idealize.ShloMosaic Idealize.ShloMosaic.TcCoe

variable (m : (ℓ : Loc nD τ sig) → Buf (Elt Ideal) ℓ) (ρ : Dev nD → PrngReg)

/-- What the call leaves in its array: row `i` is the slab's plane of row `i`'s evidence type. -/
def arr : Vec Ideal S1x2048x64x2048 .f32 := fun i =>
  slab (T m) (E m) (ix3 (plane (E m (ix2 (0 : Fin 1) (i 1)))) (i 2) (i 3))

/-- The result: at (i, j) the table's row for the pair of evidence types. -/
def res (W : Vec Ideal S16x64 .f32) (e : Vec Ideal S1x2048 .i32) : Vec Ideal S1x2048x2048x64 .f32 := fun i =>
  W (ix2 (relRow (plane (e (ix2 (0 : Fin 1) (i 1)))) (plane (e (ix2 (0 : Fin 1) (i 2))))) (i 3))

/-- Grid point `t`'s block starts at row `16 t` and spans every other axis. -/
theorem emb_val (t : Fin (cfgM m (ok m)).N) (y : S1x16x64x2048.Idx) (a : Fin 4) :
    ((((cfgM m (ok m)).win 2).blk t).view.emb y a).val = (![0, 16 * t.val, 0, 0] : Fin 4 → ℕ) a + (y a).val := by
  have ht : t.val < 128 := Nat.lt_of_lt_of_eq t.isLt N_0
  have e0 : (grid0.coords t 0).val = t.val / 1 % 128 := Pipeline.Grid.coords_val (G := grid0) t 0 (by decide) rfl
  have e1 : (BitVec.ofNat 32 (grid0.coords t 0).val).toNat = t.val := by rw [BitVec.toNat_ofNat, e0]; omega
  refine (Pipeline.Window.rect_emb_val ((cfgM m (ok m)).win 2) t y a (by rfl)).trans (congrArg (· + (y a).val) ?_)
  fin_cases a
  · rfl
  · show (BitVec.ofNat 32 (grid0.coords t 0).val).toNat * 16 = 16 * t.val
    omega
  · rfl
  · rfl

/-- Place `y` of grid point `t`'s block, in the array. -/
theorem emb_eq (t : Fin (cfgM m (ok m)).N) (y : S1x16x64x2048.Idx) :
    (((cfgM m (ok m)).win 2).blk t).view.emb y = (ix4 (0 : Fin 1) (row t (y 1)) (y 2) (y 3) : S1x2048x64x2048.Idx) := by
  have h0 : (y 0).val < 1 := (y 0).isLt
  funext a
  apply Fin.ext
  refine (emb_val m t y a).trans ?_
  fin_cases a
  · show 0 + (y 0).val = 0; omega
  · rfl
  · show 0 + (y 2).val = (y 2).val; omega
  · show 0 + (y 3).val = (y 3).val; omega

variable {m} in
/-- What each grid point writes back is its block of `arr`. -/
theorem flushed_eq (h : ∀ y, (E m y).toNat < 4) (hH : Hyps m (ok m)) (c : Dev nD) (t : Fin (cfgM m (ok m)).N) :
    (dats m (ok m) hH 0 c).flushed 2 t = (((cfgM m (ok m)).win 2).blk t).view.read (Elt Ideal) (arr m) := by
  show ((cfgM m (ok m)).win 2).cut (grid0.coords t) ((dats m (ok m) hH 0 c).after 2 t) = _
  rw [after0_2, out_eq h]
  funext y
  show blk m (slab (T m) (E m)) t y = arr m ((((cfgM m (ok m)).win 2).blk t).view.emb y)
  exact (congrArg (arr m) (emb_eq m t y)).symm

/-- Every row is in some grid point's block. -/
theorem cover (i : S1x2048x64x2048.Idx) :
    ∃ t : Fin (cfgM m (ok m)).N, ((cfgM m (ok m)).win 2).flush t = true ∧ i ∈ (((cfgM m (ok m)).win 2).blk t).view.set := by
  have hi : (i 1).val < 2048 := (i 1).isLt
  have h0 : (i 0).val < 1 := (i 0).isLt
  let t : Fin (cfgM m (ok m)).N := ⟨(i 1).val / 16, Nat.lt_of_lt_of_eq (by omega : (i 1).val / 16 < 128) N_0.symm⟩
  refine ⟨t, flush0_2 _ _, ?_⟩
  have he : (((cfgM m (ok m)).win 2).blk t).view.emb
      (ix4 (0 : Fin 1) (⟨(i 1).val % 16, Nat.mod_lt _ (by decide)⟩ : Fin 16) (i 2) (i 3) : S1x16x64x2048.Idx) = (i : S1x2048x64x2048.Idx) := by
    refine (emb_eq m t _).trans (funext fun a => Fin.ext ?_)
    fin_cases a
    · show 0 = (i 0).val; omega
    · show 16 * ((i 1).val / 16) + (i 1).val % 16 = (i 1).val; omega
    · rfl
    · rfl
  exact he ▸ View.emb_mem_set _ _

variable {m} in
/-- So the call's array ends as `arr`. -/
theorem final (h : ∀ y, (E m y).toNat < 4) (hH : Hyps m (ok m)) (c : Dev nD) :
    (dats m (ok m) hH 0 c).arrAt 2 (cfgM m (ok m)).N = arr m :=
  (dats m (ok m) hH 0 c).arrAt_eq_of_cover 2 (arr m) (fun t _ => flushed_eq h hH c t) (cover m)

variable {m} in
/-- The transposition after the call reads that array. -/
theorem tail (h : ∀ y, (E m y).toNat < 4) (hH : Hyps m (ok m)) (c : Dev nD) :
    Pipeline.afterTail pcfgs (fun _ => adm m (ok m)) (dats m (ok m) hH) 0 (V0 m) [hostOps1] c main_v3 = res (T m) (E m) := by
  have e1 : Pipeline.afterTail pcfgs (fun _ => adm m (ok m)) (dats m (ok m) hH) 0 (V0 m) [hostOps1] c main_v3
      = transpose S1x2048x2048x64 [0, 1, 3, 2] (arr m) transposes_S1x2048x64x2048_S1x2048x2048x64_0_1_3_2 := by
    unfold Pipeline.afterTail
    rw [show ([hostOps1].flatten : List (HloOp τ sig (Elt Ideal))) = hostOps1 from rfl]
    after_results
    exact congrArg (fun A : Vec Ideal S1x2048x64x2048 .f32 =>
        transpose S1x2048x2048x64 [0, 1, 3, 2] A transposes_S1x2048x64x2048_S1x2048x2048x64_0_1_3_2)
      ((Pipeline.withArrays_arr spec0 (by decide) c _ _ 2).trans (final h hH c))
  rw [e1]
  funext i
  unfold arr slab res
  pointwise

/-- The kernel's run: it ends with its result at `res` of the arguments, and the arguments unchanged. -/
theorem run (h : ∀ y, (E m y).toNat < 4) :
    θ_run defs (onTc (τ := τ) (main (F := Ideal))) ⟨m, fun _ => 0, ρ⟩ fun r => ∀ c : Dev nD,
      r.2.mem ((c.tc : Thread nD τ).loc main_v3) = res (T m) (E m)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  have hH := hyps_of_lt m h
  (θ_run defs _ _).mono (fun _ hr c => ⟨((hr c).2 main_v3 (show main_v3 ∈ Pipeline.restRefs sig spec0 by decide)).trans (tail h hH c),
    ((hr c).2 main_arg0 (show main_arg0 ∈ Pipeline.restRefs sig spec0 by decide)).trans (W_main_arg0 m (ok m) _ c),
    ((hr c).1 1).trans (((dats m (ok m) hH 0 c).arrAt_in 1 rfl _).trans ((A_eq m (ok m) hH c 1).trans (V_main_arg1 m c)))⟩)
    (run_main m ρ (ok m) hH)

end Cert.Proof.PI
-- ==== Proof.Ref.lean ====
/- Hand-written, untrusted: THE REFERENCE'S RESULT. Its take from the relation table, at evidence types below 4, reads row
   `4 e i + e j` at (i, j): the row number is neither negative nor past the table's end, so the take neither wraps it around
   nor fills in a NaN. -/
module

public import proofs.«01_k».proof.Proof.Array
public import proofs.«01_k».proof.Proof.Gen.ReferenceIdeal.Run
public import Idealize.ShloMosaic.Lib.ReduceAll
public import Idealize.ShloMosaic.Lib.ValueIdxCore

@[expose] public section

set_option maxRecDepth 16384

namespace Cert.Proof.RI

open Cert.ReferenceIdeal Cert.ReferenceIdeal.Gen
open Idealize.ShloMosaic Idealize.ShloMosaic.TcCoe

/-- The row number of each pair: four times the first evidence type, plus the second. -/
abbrev rel (e : IVec S1x2048 32) : IVec S1x2048x2048 32 :=
  addi (broadcastInDim S1x2048x2048 ![0, 1, 2] bcast_S1x2048x1_S1x2048x2048_0_1_2
      (muli (broadcastInDim S1x2048x1 ![0, 1] bcast_S1x2048_S1x2048x1_0_1 e)
        (broadcastInDim S1x2048x1 ![] bcast_S_S1x2048x1 (constantI S_ 32 4#32))))
    (broadcastInDim S1x2048x2048 ![0, 1, 2] bcast_S1x1x2048_S1x2048x2048_0_1_2
      (broadcastInDim S1x1x2048 ![0, 2] bcast_S1x2048_S1x1x2048_0_2 e))

/-- The start indices of the take: the row numbers, a negative one counted from the table's end. -/
abbrev start (e : IVec S1x2048 32) : IVec S1x2048x2048x1 32 :=
  broadcastInDim S1x2048x2048x1 ![0, 1, 2] bcast_S1x2048x2048_S1x2048x2048x1_0_1_2
    (select (cmpi .slt (rel e) (broadcastInDim S1x2048x2048 ![] bcast_S_S1x2048x2048 (constantI S_ 32 0#32)))
      (addi (rel e) (broadcastInDim S1x2048x2048 ![] bcast_S_S1x2048x2048 (constantI S_ 32 16#32))) (rel e))

/-- Which start indices lie inside the table. -/
abbrev inside (e : IVec S1x2048 32) : IVec S1x2048x2048x1 1 :=
  andi (cmpi .sge (start e) (broadcastInDim S1x2048x2048x1 ![] bcast_S_S1x2048x2048x1 (constantI S_ 32 0#32)))
    (cmpi .sle (start e) (broadcastInDim S1x2048x2048x1 ![0, 1, 2, 3] bcast_S1x1x1x1_S1x2048x2048x1_0_1_2_3
      (broadcastInDim S1x1x1x1 ![3] bcast_S1_S1x1x1x1_3 (constantI S1 32 15#32))))

/-- A row number, at an index, as words. -/
theorem rel_apply (e : IVec S1x2048 32) (y : S1x2048x2048.Idx) :
    rel e y = e (ix2 (0 : Fin 1) (y 1)) * 4#32 + e (ix2 (0 : Fin 1) (y 2)) := by
  unfold rel
  pointwise
  rfl

/-- At evidence types below 4 a row number does not overflow. -/
theorem rel_toNat (e : IVec S1x2048 32) (he : ∀ y, (e y).toNat < 4) (y : S1x2048x2048.Idx) :
    (rel e y).toNat = 4 * (e (ix2 (0 : Fin 1) (y 1))).toNat + (e (ix2 (0 : Fin 1) (y 2))).toNat := by
  have h1 := he (ix2 (0 : Fin 1) (y 1))
  have h2 := he (ix2 (0 : Fin 1) (y 2))
  rw [rel_apply, BitVec.toNat_add, BitVec.toNat_mul, BitVec.toNat_ofNat]
  omega

/-- So it lies below 16. -/
theorem rel_lt (e : IVec S1x2048 32) (he : ∀ y, (e y).toNat < 4) (y : S1x2048x2048.Idx) : (rel e y).toNat < 16 := by
  have h1 := he (ix2 (0 : Fin 1) (y 1))
  have h2 := he (ix2 (0 : Fin 1) (y 2))
  rw [rel_toNat e he]
  omega

/-- A word below 16 is not negative, and reads the same signed. -/
theorem toInt_small (v : BitVec 32) (h : v.toNat < 16) : v.toInt = v.toNat := by
  rw [BitVec.toInt_eq_toNat_cond, if_pos (by omega)]

/-- No start index is counted from the end: each is its row number. -/
theorem start_apply (e : IVec S1x2048 32) (he : ∀ y, (e y).toNat < 4) (y : S1x2048x2048x1.Idx) :
    start e y = rel e (ix3 (0 : Fin 1) (y 1) (y 2)) := by
  have e0 : start e y = Scalar.select (IntOp.cmpi .slt (rel e (ix3 (0 : Fin 1) (y 1) (y 2))) 0#32)
      (IntOp.addi (rel e (ix3 (0 : Fin 1) (y 1) (y 2))) 16#32) (rel e (ix3 (0 : Fin 1) (y 1) (y 2))) := by
    unfold start
    pointwise
  have hlt : ¬IntOp.cmpi .slt (rel e (ix3 (0 : Fin 1) (y 1) (y 2))) 0#32 = 1#1 := by
    rw [IntOp.cmpi_slt, toInt_small _ (rel_lt e he _)]
    simp
  rw [e0]
  exact if_neg hlt

/-- Every start index lies inside the table. -/
theorem inside_apply (e : IVec S1x2048 32) (he : ∀ y, (e y).toNat < 4) (y : S1x2048x2048x1.Idx) : inside e y = 1#1 := by
  have e0 : inside e y = IntOp.andi (IntOp.cmpi .sge (start e y) 0#32) (IntOp.cmpi .sle (start e y) 15#32) := rfl
  have h := rel_lt e he (ix3 (0 : Fin 1) (y 1) (y 2))
  have hs := toInt_small _ h
  rw [e0, start_apply e he, IntOp.andi_eq_one, IntOp.cmpi_sge, IntOp.cmpi_sle, hs]
  have h15 : (15#32 : BitVec 32).toInt = 15 := by decide
  have h0 : (0#32 : BitVec 32).toInt = 0 := by decide
  rw [h15, h0]
  omega

/-- The take's gather, at an index: the operand at the start index's row, read signed and kept inside the table. -/
theorem gather_apply {α : Type} (x : S16x64.Idx → α) (s : IVec S1x2048x2048x1 32) (y : S1x2048x2048x64.Idx) :
    Host.gather gather_S16x64_S1x2048x2048x1_S1x2048x2048x64_3_0_n_n_0_3_164 x s y
      = x (ix2 (⟨min (s (ix4 (y 0) (y 1) (y 2) (0 : Fin 1))).toInt.toNat 15, by omega⟩ : Fin 16) (y 3)) := by
  unfold Host.gather
  congr 1
  funext a
  refine Fin.ext ?_
  show (gather_S16x64_S1x2048x2048x1_S1x2048x2048x64_3_0_n_n_0_3_164).start y s a
    + (gather_S16x64_S1x2048x2048x1_S1x2048x2048x64_3_0_n_n_0_3_164).batchCoord y a
    + (gather_S16x64_S1x2048x2048x1_S1x2048x2048x64_3_0_n_n_0_3_164).offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S16x64_S1x2048x2048x1_S1x2048x2048x64_3_0_n_n_0_3_164).startIndexMap from
      List.mem_singleton.mpr rfl)]
    have hsi : (gather_S16x64_S1x2048x2048x1_S1x2048x2048x64_3_0_n_n_0_3_164).siIdx y
        ⟨List.idxOf (0 : Fin 2) (gather_S16x64_S1x2048x2048x1_S1x2048x2048x64_3_0_n_n_0_3_164).startIndexMap,
          List.idxOf_lt_length_iff.2 (List.mem_singleton.mpr rfl)⟩ = ix4 (y 0) (y 1) (y 2) (0 : Fin 1) := by
      funext b
      refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ (List.not_mem_nil)]
    unfold GatherDims.start
    rw [dif_neg (show ¬(1 : Fin 2) ∈ (gather_S16x64_S1x2048x2048x1_S1x2048x2048x64_3_0_n_n_0_3_164).startIndexMap from by decide)]
    simp only [Nat.zero_add]
    rfl

/-- The reference's result: at (i, j) the table's row for the pair of evidence types. -/
theorem out_eq (m : (ℓ : Loc nD τ sig) → Buf (Elt Ideal) ℓ) (c : Dev nD) (W : Vec Ideal S16x64 .f32) (e : Vec Ideal S1x2048 .i32)
    (hW : m ((c.tc : Thread nD τ).loc main_arg1) = W) (hE : m ((c.tc : Thread nD τ).loc main_arg0) = e)
    (he : ∀ y, BitVec.toNat (w := 32) (e y) < 4) : Value.res_main_v7 m c = PI.res W e := by
  unfold Value.res_main_v7
  rw [hW, hE]
  funext y
  show Scalar.select (Host.reduce IntOp.andi (inside e) (constantI S_ 1 1#1) reducesTo_S1x2048x2048x1_S1x2048x2048_d3 h_S_ _)
    (Host.gather gather_S16x64_S1x2048x2048x1_S1x2048x2048x64_3_0_n_n_0_3_164 W (start e) y) _ = PI.res W e y
  rw [Host.reduce_andi_one _ _ _ _ _ rfl (inside_apply e he)]
  refine (if_pos rfl).trans ((gather_apply W (start e) y).trans ?_)
  unfold PI.res
  refine congrArg (fun r => W (ix2 r (y 3))) (Fin.ext ?_)
  show min (start e (ix4 (y 0) (y 1) (y 2) (0 : Fin 1))).toInt.toNat 15
    = 4 * (BitVec.toNat (w := 32) (e (ix2 (0 : Fin 1) (y 1))) % 4) + BitVec.toNat (w := 32) (e (ix2 (0 : Fin 1) (y 2))) % 4
  have h1 := he (ix2 (0 : Fin 1) (y 1))
  have h2 := he (ix2 (0 : Fin 1) (y 2))
  rw [start_apply e he, toInt_small _ (rel_lt e he _), Int.toNat_natCast, rel_toNat e he]
  show min (4 * BitVec.toNat (w := 32) (e (ix2 (0 : Fin 1) (y 1))) + BitVec.toNat (w := 32) (e (ix2 (0 : Fin 1) (y 2)))) 15 = _
  omega

end Cert.Proof.RI
-- ==== Proof.lean ====
/- Hand-written, untrusted: THE PROOF OF `Cert.Claim`. The frames come from the generated runs, at tables whose words are below
   4; the algebraic claim joins the kernel's run and the reference's, both of which end at `PI.res` of the arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_evidence_range
public import proofs.«01_k».proof.Proof.Range
public import proofs.«01_k».proof.Proof.IdealHyps
public import proofs.«01_k».proof.Proof.Array
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem

/-- The kernel's side conditions at the table: its words are below 4. The two printed kernels have the same text, so they are
    proved once. -/
theorem hyps_k {F : FTy → Type} [FloatOps F] (m : (ℓ : Loc Cert.Kernel.nD Cert.Kernel.τ Cert.Kernel.sig) → Buf (Elt F) ℓ)
    (h : ∀ y, BitVec.toNat (w := 32) (m (((0 : Dev Cert.Kernel.nD).tc : Thread Cert.Kernel.nD Cert.Kernel.τ).loc Cert.Kernel.main_arg0) y) < 4) :
    Cert.Kernel.Gen.Hyps m trivial := Cert.Proof.PI.hyps_of_lt (F := F) m h

/-- The kernel runs and leaves its arguments. -/
theorem frame_k : Cert.quiescent_Kernel := fun m ρ h =>
  Cert.Kernel.Gen.frame m ρ trivial (hyps_k m (lt_four _ _ (h 0)))

/-- So it does over the extended reals. -/
theorem frame_ki : Cert.quiescent_KernelIdeal := fun m ρ h =>
  Cert.KernelIdeal.Gen.frame m ρ trivial (PI.hyps_of_lt m (lt_four _ _ (h 0)))

/-- The reference runs and leaves its arguments. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over the extended reals the kernel and the reference end with equal results. -/
theorem algebraic : Cert.algebraic_KernelIdeal_ReferenceIdeal := fun m g m' g' hpre hagree =>
  have h : ∀ y, BitVec.toNat (w := 32) (PI.E m y) < 4 := lt_four _ _ (hpre 0)
  ⟨fun _ => PI.res (PI.T m) (PI.E m), PI.run m g h,
    (θ_run Cert.ReferenceIdeal.defs _ _).mono (fun _ hr c =>
      have hc : c = (0 : Dev Cert.KernelIdeal.nD) := Subsingleton.elim _ _
      ⟨(hr c).1.trans (RI.out_eq m' c (PI.T m) (PI.E m) (hc ▸ (hagree c).2) (hc ▸ (hagree c).1) h), (hr c).2⟩)
      (Cert.ReferenceIdeal.Value.run m' g')⟩

/-- Every claim of the certificate. -/
theorem claim : Cert.Claim := ⟨Cert.Kernel.Gen.facts, Cert.KernelIdeal.Gen.facts, Cert.ReferenceIdeal.Gen.facts, Cert.Pre_evidence_range.Gen.facts,
  frame_k, frame_ki, frame_r, fun m ρ _ => frame_r m ρ trivial, trivial, algebraic⟩

end Cert.Proof

end
